-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x8960 : Shape := ⟨3, ![4, 2048, 8960]⟩
abbrev S4x2048x1 : Shape := ⟨3, ![4, 2048, 1]⟩
abbrev S8960x5120 : Shape := ⟨2, ![8960, 5120]⟩
abbrev S5120 : Shape := ⟨1, ![5120]⟩
abbrev S4x2048x5120 : Shape := ⟨3, ![4, 2048, 5120]⟩
abbrev S8192x8960 : Shape := ⟨2, ![8192, 8960]⟩
abbrev S8192x1 : Shape := ⟨2, ![8192, 1]⟩
abbrev S1x5120 : Shape := ⟨2, ![1, 5120]⟩
abbrev S8192x5120 : Shape := ⟨2, ![8192, 5120]⟩
abbrev S1024x8960 : Shape := ⟨2, ![1024, 8960]⟩
abbrev S1024x1 : Shape := ⟨2, ![1024, 1]⟩
abbrev S8960x1024 : Shape := ⟨2, ![8960, 1024]⟩
abbrev S1x1024 : Shape := ⟨2, ![1, 1024]⟩
abbrev S1024x1024 : Shape := ⟨2, ![1024, 1024]⟩

abbrev nBuf : Space → Nat
  | .hbm => 11
  | .vmem => 12
  | .smem => 0
  | _ => 0

abbrev bufTy : (tb : Table) → Fin (tcTables nBuf tb) → BufTy
  | .hbm, ⟨0, _⟩ => ⟨S4x2048x8960, .fp8e4m3⟩
  | .hbm, ⟨1, _⟩ => ⟨S4x2048x1, .f32⟩
  | .hbm, ⟨2, _⟩ => ⟨S8960x5120, .fp8e4m3⟩
  | .hbm, ⟨3, _⟩ => ⟨S5120, .f32⟩
  | .hbm, ⟨4, _⟩ => ⟨S4x2048x5120, .bf16⟩
  | .hbm, ⟨5, _⟩ => ⟨S8192x8960, .fp8e4m3⟩
  | .hbm, ⟨6, _⟩ => ⟨S8192x1, .f32⟩
  | .hbm, ⟨7, _⟩ => ⟨S1x5120, .f32⟩
  | .hbm, ⟨8, _⟩ => ⟨S8192x5120, .bf16⟩
  | .hbm, ⟨9, _⟩ => ⟨S8192x5120, .bf16⟩
  | .hbm, ⟨10, _⟩ => ⟨S4x2048x5120, .bf16⟩
  | .local _ .vmem, ⟨0, _⟩ => ⟨S1024x8960, .fp8e4m3⟩
  | .local _ .vmem, ⟨1, _⟩ => ⟨S1024x8960, .fp8e4m3⟩
  | .local _ .vmem, ⟨2, _⟩ => ⟨S1024x1, .f32⟩
  | .local _ .vmem, ⟨3, _⟩ => ⟨S1024x1, .f32⟩
  | .local _ .vmem, ⟨4, _⟩ => ⟨S8960x1024, .fp8e4m3⟩
  | .local _ .vmem, ⟨5, _⟩ => ⟨S8960x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S4x2048x8960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8960 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8960x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x8960 : Shape := ⟨3, ![4, 2048, 8960]⟩
abbrev S4x2048x1 : Shape := ⟨3, ![4, 2048, 1]⟩
abbrev S8960x5120 : Shape := ⟨2, ![8960, 5120]⟩
abbrev S5120 : Shape := ⟨1, ![5120]⟩
abbrev S4x2048x5120 : Shape := ⟨3, ![4, 2048, 5120]⟩
abbrev S1x1x5120 : Shape := ⟨3, ![1, 1, 5120]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x8960, .fp8e4m3⟩
  | .hbm, ⟨1, _⟩ => ⟨S4x2048x1, .f32⟩
  | .hbm, ⟨2, _⟩ => ⟨S8960x5120, .fp8e4m3⟩
  | .hbm, ⟨3, _⟩ => ⟨S5120, .f32⟩
  | .hbm, ⟨4, _⟩ => ⟨S4x2048x5120, .bf16⟩
  | .hbm, ⟨5, _⟩ => ⟨S4x2048x5120, .bf16⟩
  | .local _ .vmem, ⟨0, _⟩ => ⟨S4x2048x8960, .fp8e4m3⟩
  | .local _ .vmem, ⟨1, _⟩ => ⟨S4x2048x1, .f32⟩
  | .local _ .vmem, ⟨2, _⟩ => ⟨S8960x5120, .fp8e4m3⟩
  | .local _ .vmem, ⟨3, _⟩ => ⟨S5120, .f32⟩
  | .local _ .vmem, ⟨4, _⟩ => ⟨S4x2048x5120, .bf16⟩
  | .local _ .vmem, ⟨5, _⟩ => ⟨S4x2048x5120, .bf16⟩
  | _, _ => ⟨S4x2048x8960, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x2048x8960 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Formula.lean ====
/- The formula that both programs compute, at one index, over the extended reals. -/
module

public import Idealize.ShloMosaic.Lib.Pipeline.ValueKit

@[expose] public section

set_option maxRecDepth 16384

noncomputable section

open Idealize.ShloMosaic Idealize.ShloMosaic.TcCoe Idealize.SL.Sem

namespace Cert.DownProj

/-- Entry `(b, s, n)` of the down projection with its residual: row `(b, s)` of the codes `x` times column `n` of
    the codes `w`, times the row's scale, times the column's scale, plus the residual. -/
def entry (x : Vec Ideal ⟨3, ![4, 2048, 8960]⟩ .fp8e4m3) (xs : Vec Ideal ⟨3, ![4, 2048, 1]⟩ .f32)
    (w : Vec Ideal ⟨2, ![8960, 5120]⟩ .fp8e4m3) (ws : Vec Ideal ⟨1, ![5120]⟩ .f32)
    (res : Vec Ideal ⟨3, ![4, 2048, 5120]⟩ .bf16) (b : Fin 4) (s : Fin 2048) (n : Fin 5120) : EReal :=
  (∑ k : Fin 8960, (x (ix3 b s k) : EReal) * (w (ix2 k n) : EReal)) * (xs (ix3 b s 0) : EReal) * (ws (ix1 n) : EReal)
    + (res (ix3 b s n) : EReal)

end Cert.DownProj

end
-- ==== Proof.KernelBlock.lean ====
/- What one grid point of the kernel computes from the blocks it is handed. -/
module

public import proofs.«01_k».proof.Proof.Formula
public import proofs.«01_k».proof.Proof.Gen.KernelIdeal.Frame

@[expose] public section

set_option maxRecDepth 16384

noncomputable section

open Idealize.ShloMosaic Idealize.ShloMosaic.TcCoe Idealize.SL.Sem

namespace Cert.KernelIdeal.Block

open Cert.KernelIdeal Cert.KernelIdeal.Gen

/-- The block that a grid point stores, read at `(r, n)`: row `r` of its `x` block times column `n` of its weight
    block, times the two scales, plus the residual's entry. -/
theorem stored_apply (x : Vec Ideal S1024x8960 .fp8e4m3) (w : Vec Ideal S8960x1024 .fp8e4m3)
    (xs : Vec Ideal S1024x1 .f32) (ws : Vec Ideal S1x1024 .f32) (res : Vec Ideal S1024x1024 .bf16)
    (r n : Fin 1024) :
    k0_pay1 x w xs ws res (ix2 r n)
      = (∑ k : Fin 8960, (x (ix2 r k) : EReal) * (w (ix2 k n) : EReal)) * (xs (ix2 r 0) : EReal) * (ws (ix2 0 n) : EReal)
        + (res (ix2 r n) : EReal) := by
  unfold k0_pay1
  pointwise

end Cert.KernelIdeal.Block

end
-- ==== Proof.KernelInputs.lean ====
/- The arrays that the kernel's launch reads, in terms of the program's arguments: the host lines before the launch
   flatten the two leading axes of `x`, its scale and the residual, and put a unit axis before the weights' scale. -/
module

public import proofs.«01_k».proof.Proof.Formula
public import proofs.«01_k».proof.Proof.Gen.KernelIdeal.Frame

@[expose] public section

set_option maxRecDepth 16384

noncomputable section

open Idealize.ShloMosaic Idealize.ShloMosaic.TcCoe Idealize.SL.Sem

namespace Cert.KernelIdeal.Inputs

open Cert.KernelIdeal Cert.KernelIdeal.Gen

variable (m : (ℓ : Loc nD τ sig) → Buf (Elt Ideal) ℓ)

/-- The batch of token `r` of 8192. -/
abbrev batchOf (r : Fin 8192) : Fin 4 := ⟨r.val / 2048, by omega⟩
/-- The place of token `r` within its batch. -/
abbrev placeOf (r : Fin 8192) : Fin 2048 := ⟨r.val % 2048, by omega⟩

/-- Row `r` of the flattened codes is row `(r / 2048, r % 2048)` of the argument. -/
theorem x_apply (c : Dev nD) (r : Fin 8192) (k : Fin 8960) :
    V m c main_v0 (ix2 r k) = m ((c : Thread nD τ).loc main_arg0) (ix3 (batchOf r) (placeOf r) k) := by
  unfold V V0
  simp only [hostOps0, List.flatten_cons, List.flatten_nil, List.append_nil]
  after_results
  pointwise

/-- Row `r` of the flattened row scales is row `(r / 2048, r % 2048)` of the argument. -/
theorem xs_apply (c : Dev nD) (r : Fin 8192) :
    V m c main_v1 (ix2 r 0) = m ((c : Thread nD τ).loc main_arg1) (ix3 (batchOf r) (placeOf r) 0) := by
  unfold V V0
  simp only [hostOps0, List.flatten_cons, List.flatten_nil, List.append_nil]
  after_results
  pointwise

/-- The one row of the column scales is the argument. -/
theorem ws_apply (c : Dev nD) (n : Fin 5120) :
    V m c main_v2 (ix2 0 n) = m ((c : Thread nD τ).loc main_arg3) (ix1 n) := by
  unfold V V0
  simp only [hostOps0, List.flatten_cons, List.flatten_nil, List.append_nil]
  after_results
  pointwise

/-- Row `r` of the flattened residual is row `(r / 2048, r % 2048)` of the argument. -/
theorem res_apply (c : Dev nD) (r : Fin 8192) (n : Fin 5120) :
    V m c main_v3 (ix2 r n) = m ((c : Thread nD τ).loc main_arg4) (ix3 (batchOf r) (placeOf r) n) := by
  unfold V V0
  simp only [hostOps0, List.flatten_cons, List.flatten_nil, List.append_nil]
  after_results
  pointwise

end Cert.KernelIdeal.Inputs

end
-- ==== Proof.KernelArray.lean ====
/- What the kernel's output array holds after the launch, and the program's result after the host line that follows. -/
module

public import proofs.«01_k».proof.Proof.KernelBlock
public import proofs.«01_k».proof.Proof.KernelInputs

@[expose] public section

set_option maxRecDepth 16384

noncomputable section

open Idealize.ShloMosaic Idealize.ShloMosaic.TcCoe Idealize.SL.Sem

namespace Cert.KernelIdeal.Array

open Cert.KernelIdeal Cert.KernelIdeal.Gen Cert.KernelIdeal.Inputs

variable (m : (ℓ : Loc nD τ sig) → Buf (Elt Ideal) ℓ) (ρ : Dev nD → PrngReg)

/-- The formula's entry `(b, s, n)` of device `c`'s arguments. -/
abbrev entryOf (c : Dev nD) (b : Fin 4) (s : Fin 2048) (n : Fin 5120) : EReal :=
  DownProj.entry (m ((c : Thread nD τ).loc main_arg0)) (m ((c : Thread nD τ).loc main_arg1))
    (m ((c : Thread nD τ).loc main_arg2)) (m ((c : Thread nD τ).loc main_arg3)) (m ((c : Thread nD τ).loc main_arg4)) b s n

/-- The launch's output array: at token `r` and column `n` the formula's entry of that token. -/
def flat (c : Dev nD) : Vec Ideal S8192x5120 .bf16 := fun i => entryOf m c (batchOf (i 0)) (placeOf (i 0)) (i 1)

/-- The program's result: at `(b, s, n)` the formula's entry. -/
def result (c : Dev nD) : Vec Ideal S4x2048x5120 .bf16 := fun i => entryOf m c (i 0) (i 1) (i 2)

/-- Which block each window has at grid point `t` of 40: five points to a block of tokens, one to each block of columns. -/
theorem block_index : ∀ t : Fin cfg0.N, win0_0.index t = ![t.val / 5, 0] ∧ win0_1.index t = ![t.val / 5, 0]
    ∧ win0_2.index t = ![0, t.val % 5] ∧ win0_3.index t = ![0, t.val % 5] ∧ win0_4.index t = ![t.val / 5, t.val % 5]
    ∧ win0_5.index t = ![t.val / 5, t.val % 5] :=
  (by decide +kernel : ∀ t : Fin grid0.N, _)

/-- Token of the array at row `r` of grid point `t`'s blocks. -/
abbrev tokenAt (t : Fin cfg0.N) (r : Fin 1024) : Fin 8192 :=
  ⟨t.val / 5 * 1024 + r.val, by have : t.val < 40 := lt_of_lt_of_eq t.isLt N_0; omega⟩
/-- Column of the array at column `n` of grid point `t`'s blocks. -/
abbrev columnAt (t : Fin cfg0.N) (n : Fin 1024) : Fin 5120 := ⟨t.val % 5 * 1024 + n.val, by omega⟩

/-- Row `r` of point `t`'s block of `x` is the codes of token `tokenAt t r`. -/
theorem x_block (c : Dev nD) (t : Fin cfg0.N) (r : Fin 1024) (k : Fin 8960) :
    iblk m c 0 t (ix2 r k) = m ((c : Thread nD τ).loc main_arg0) (ix3 (batchOf (tokenAt t r)) (placeOf (tokenAt t r)) k) := by
  refine Eq.trans ?_ (x_apply m c _ _)
  blk_ext [iblk, block_index t]

/-- Row `r` of point `t`'s block of row scales is the scale of token `tokenAt t r`. -/
theorem xs_block (c : Dev nD) (t : Fin cfg0.N) (r : Fin 1024) :
    iblk m c 1 t (ix2 r 0) = m ((c : Thread nD τ).loc main_arg1) (ix3 (batchOf (tokenAt t r)) (placeOf (tokenAt t r)) 0) := by
  refine Eq.trans ?_ (xs_apply m c _)
  blk_ext [iblk, block_index t]

/-- Column `n` of point `t`'s block of weights is column `columnAt t n` of the weights. -/
theorem w_block (c : Dev nD) (t : Fin cfg0.N) (k : Fin 8960) (n : Fin 1024) :
    iblk m c 2 t (ix2 k n) = m ((c : Thread nD τ).loc main_arg2) (ix2 k (columnAt t n)) := by
  refine Eq.trans ?_ (congrFun (V_main_arg2 m c) _)
  blk_ext [iblk, block_index t]

/-- Entry `n` of point `t`'s block of column scales is the scale of column `columnAt t n`. -/
theorem ws_block (c : Dev nD) (t : Fin cfg0.N) (n : Fin 1024) :
    iblk m c 3 t (ix2 0 n) = m ((c : Thread nD τ).loc main_arg3) (ix1 (columnAt t n)) := by
  refine Eq.trans ?_ (ws_apply m c _)
  blk_ext [iblk, block_index t]

/-- Entry `(r, n)` of point `t`'s block of the residual is the residual of that token and column. -/
theorem res_block (c : Dev nD) (t : Fin cfg0.N) (r n : Fin 1024) :
    iblk m c 4 t (ix2 r n)
      = m ((c : Thread nD τ).loc main_arg4) (ix3 (batchOf (tokenAt t r)) (placeOf (tokenAt t r)) (columnAt t n)) := by
  refine Eq.trans ?_ (res_apply m c _ _)
  blk_ext [iblk, block_index t]

/-- What grid point `t` stores at `(r, n)` of its block is the formula's entry of that token and column. -/
theorem block_apply (c : Dev nD) (t : Fin cfg0.N) (r n : Fin 1024) :
    k0_pay1 (iblk m c 0 t) (iblk m c 2 t) (iblk m c 1 t) (iblk m c 3 t) (iblk m c 4 t) (ix2 r n)
      = entryOf m c (batchOf (tokenAt t r)) (placeOf (tokenAt t r)) (columnAt t n) := by
  rw [Block.stored_apply]
  unfold entryOf DownProj.entry
  simp only [x_block, xs_block, w_block, ws_block, res_block]

/-- After the launch the output array is `flat`: the 40 blocks cover it, and each holds its entries. -/
theorem array_eq (c : Dev nD) : (dats m 0 c).arrAt 5 cfg0.N = flat m c := by
  refine (dats m 0 c).arrAt_eq_of_covers 5 _ (by decide +kernel) fun t hf y => ?_
  blk_simp
  rw [after0_5]
  frame_out
  idx_vars y
  refine (block_apply m c t y0 y1).trans (?_ : flat m c (ix2 (tokenAt t y0) (columnAt t y1)) = _)
  blk_ext [block_index t]

/-- The host line after the launch splits the tokens into batches again. -/
theorem result_eq (c : Dev nD) : Pipeline.afterTail₀ cfgs (dats m) 0 (V0 m) [hostOps1] c main_v5 = result m c := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.devRef .tc main_v4)
      = flat m c :=
    (Pipeline.withArrays_arr spec0 launch0.win.arr_inj c (V0 m c) (fun w => (dats m 0 c).arrAt w (cfgs 0).N) 5).trans (array_eq m c)
  funext i
  idx_vars i
  rw [h]
  pointwise
  have hb (h : i0.val * 2048 + i1.val < 8192) : batchOf ⟨i0.val * 2048 + i1.val, h⟩ = i0 :=
    Fin.ext (show (i0.val * 2048 + i1.val) / 2048 = i0.val by omega)
  have hs (h : i0.val * 2048 + i1.val < 8192) : placeOf ⟨i0.val * 2048 + i1.val, h⟩ = i1 :=
    Fin.ext (show (i0.val * 2048 + i1.val) % 2048 = i1.val by omega)
  show entryOf m c (batchOf ⟨i0.val * 2048 + i1.val, _⟩) (placeOf ⟨i0.val * 2048 + i1.val, _⟩) i2 = entryOf m c i0 i1 i2
  rw [hb, hs]

/-- The run: the result is the formula's entries, and the arguments are unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from run_main m ρ
  · exact result_eq m c
  · exact W_main_arg0 m (dats m) c
  · exact W_main_arg1 m (dats m) c
  · exact W_main_arg3 m (dats m) c
  · exact W_main_arg4 m (dats m) c

end Cert.KernelIdeal.Array

end
-- ==== Proof.ReferenceEntry.lean ====
/- What the reference's result holds at an index: the formula. -/
module

public import proofs.«01_k».proof.Proof.Formula
public import proofs.«01_k».proof.Proof.Gen.ReferenceIdeal.Value

@[expose] public section

set_option maxRecDepth 16384

noncomputable section

open Idealize.ShloMosaic Idealize.ShloMosaic.TcCoe Idealize.SL.Sem

namespace Cert.ReferenceIdeal.Entry

open Cert.ReferenceIdeal Cert.ReferenceIdeal.Gen

/-- The value that the reference stores, read at `(b, s, n)`, is the formula's entry `(b, s, n)` of its arguments. -/
theorem stored_apply (x : Vec Ideal S4x2048x8960 .fp8e4m3) (xs : Vec Ideal S4x2048x1 .f32)
    (w : Vec Ideal S8960x5120 .fp8e4m3) (ws : Vec Ideal S5120 .f32) (res : Vec Ideal S4x2048x5120 .bf16)
    (b : Fin 4) (s : Fin 2048) (n : Fin 5120) :
    Value.G5 x xs w ws res (ix3 b s n) = DownProj.entry x xs w ws res b s n := by
  unfold DownProj.entry
  unfold Value.G5 k0_pay1
  pointwise

end Cert.ReferenceIdeal.Entry

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Value
public import proofs.«01_k».proof.Proof.KernelArray
public import proofs.«01_k».proof.Proof.ReferenceEntry
public import Idealize.ShloMosaic.Adequacy
public import Idealize.ShloMosaic.Init

@[expose] public section

noncomputable section

namespace Cert.Proof

open Idealize.ShloMosaic Idealize.ShloMosaic.TcCoe Idealize.SL.Sem

/-- The kernel terminates without fault, its arguments unchanged, every counter back at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference over the extended reals. -/
theorem frame_referenceIdeal : Cert.quiescent_ReferenceIdeal := fun m ρ _ => Cert.ReferenceIdeal.Gen.frame m ρ

/-- From memories that agree on the arguments, the ideal kernel and the ideal reference end with equal results: at each
    index both hold the formula's entry of those arguments. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  funext i
  idx_vars i
  exact Cert.ReferenceIdeal.Entry.stored_apply _ _ _ _ _ i0 i1 i2

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
